-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x2048 : Shape := ⟨3, ![192, 1, 2048]⟩
abbrev S1024x16384 : Shape := ⟨2, ![1024, 16384]⟩
abbrev S16x16384 : Shape := ⟨2, ![16, 16384]⟩
abbrev S16x8192 : Shape := ⟨2, ![16, 8192]⟩
abbrev S192x2048 : Shape := ⟨2, ![192, 2048]⟩
abbrev S192x16384 : Shape := ⟨2, ![192, 16384]⟩
abbrev S1024x2048 : Shape := ⟨2, ![1024, 2048]⟩
abbrev S16x2048 : Shape := ⟨2, ![16, 2048]⟩
abbrev S16x1024 : Shape := ⟨2, ![16, 1024]⟩
abbrev S2048x2048 : Shape := ⟨2, ![2048, 2048]⟩
abbrev S16x128 : Shape := ⟨2, ![16, 128]⟩
abbrev S16x128x1 : Shape := ⟨3, ![16, 128, 1]⟩
abbrev S64x2048 : Shape := ⟨2, ![64, 2048]⟩
abbrev S64x1x2048 : Shape := ⟨3, ![64, 1, 2048]⟩
abbrev S64x2x2048 : Shape := ⟨3, ![64, 2, 2048]⟩
abbrev S128x2048 : Shape := ⟨2, ![128, 2048]⟩
abbrev S1x2048 : Shape := ⟨2, ![1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S192x1x2048, .bf16⟩
  | .hbm, ⟨1, _⟩ => ⟨S1024x16384, .i8⟩
  | .hbm, ⟨2, _⟩ => ⟨S16x16384, .bf16⟩
  | .hbm, ⟨3, _⟩ => ⟨S16x8192, .i8⟩
  | .hbm, ⟨4, _⟩ => ⟨S192x2048, .bf16⟩
  | .hbm, ⟨5, _⟩ => ⟨S192x16384, .bf16⟩
  | .local _ .vmem, ⟨0, _⟩ => ⟨S192x2048, .bf16⟩
  | .local _ .vmem, ⟨1, _⟩ => ⟨S1024x2048, .i8⟩
  | .local _ .vmem, ⟨2, _⟩ => ⟨S1024x2048, .i8⟩
  | .local _ .vmem, ⟨3, _⟩ => ⟨S16x2048, .bf16⟩
  | .local _ .vmem, ⟨4, _⟩ => ⟨S16x2048, .bf16⟩
  | .local _ .vmem, ⟨5, _⟩ => ⟨S16x1024, .i8⟩
  | .local _ .vmem, ⟨6, _⟩ => ⟨S16x1024, .i8⟩
  | .local _ .vmem, ⟨7, _⟩ => ⟨S192x2048, .bf16⟩
  | .local _ .vmem, ⟨8, _⟩ => ⟨S192x2048, .bf16⟩
  | .local _ .vmem, ⟨9, _⟩ => ⟨S2048x2048, .bf16⟩
  | _, _ => ⟨S192x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x2048 : Shape := ⟨3, ![192, 1, 2048]⟩
abbrev S1024x16384 : Shape := ⟨2, ![1024, 16384]⟩
abbrev S16x16384 : Shape := ⟨2, ![16, 16384]⟩
abbrev S16x8192 : Shape := ⟨2, ![16, 8192]⟩
abbrev S2 : Shape := ⟨1, ![2]⟩
abbrev S_ : Shape := ⟨0, ![]⟩
abbrev S16x8192x1 : Shape := ⟨3, ![16, 8192, 1]⟩
abbrev S16x8192x2 : Shape := ⟨3, ![16, 8192, 2]⟩
abbrev S2x1x1 : Shape := ⟨3, ![2, 1, 1]⟩
abbrev S1x1024x16384 : Shape := ⟨3, ![1, 1024, 16384]⟩
abbrev S2x1024x16384 : Shape := ⟨3, ![2, 1024, 16384]⟩
abbrev S2x16x64x16384 : Shape := ⟨4, ![2, 16, 64, 16384]⟩
abbrev S1x16x1x16384 : Shape := ⟨4, ![1, 16, 1, 16384]⟩
abbrev S2048x16384 : Shape := ⟨2, ![2048, 16384]⟩
abbrev S192x1024x2 : Shape := ⟨3, ![192, 1024, 2]⟩
abbrev S192x2x1024 : Shape := ⟨3, ![192, 2, 1024]⟩
abbrev S192x2048 : Shape := ⟨2, ![192, 2048]⟩
abbrev S192x16384 : Shape := ⟨2, ![192, 16384]⟩

abbrev nBuf : Space → Nat
  | .hbm => 40
  | .vmem => 0
  | .smem => 0
  | _ => 0

abbrev bufTy : (tb : Table) → Fin (tcTables nBuf tb) → BufTy
  | .hbm, ⟨0, _⟩ => ⟨S192x1x2048, .bf16⟩
  | .hbm, ⟨1, _⟩ => ⟨S1024x16384, .i8⟩
  | .hbm, ⟨2, _⟩ => ⟨S16x16384, .bf16⟩
  | .hbm, ⟨3, _⟩ => ⟨S16x8192, .i8⟩
  | .hbm, ⟨4, _⟩ => ⟨S2, .i32⟩
  | .hbm, ⟨5, _⟩ => ⟨S16x8192, .i32⟩
  | .hbm, ⟨6, _⟩ => ⟨S1024x16384, .i32⟩
  | .hbm, ⟨7, _⟩ => ⟨S_, .i32⟩
  | .hbm, ⟨8, _⟩ => ⟨S16x8192, .i32⟩
  | .hbm, ⟨9, _⟩ => ⟨S16x8192, .i32⟩
  | .hbm, ⟨10, _⟩ => ⟨S_, .i32⟩
  | .hbm, ⟨11, _⟩ => ⟨S16x8192, .i32⟩
  | .hbm, ⟨12, _⟩ => ⟨S16x8192, .i32⟩
  | .hbm, ⟨13, _⟩ => ⟨S16x8192x1, .i32⟩
  | .hbm, ⟨14, _⟩ => ⟨S16x8192x1, .i32⟩
  | .hbm, ⟨15, _⟩ => ⟨S16x8192x2, .i32⟩
  | .hbm, ⟨16, _⟩ => ⟨S16x16384, .i32⟩
  | .hbm, ⟨17, _⟩ => ⟨S16x16384, .bf16⟩
  | .hbm, ⟨18, _⟩ => ⟨S2x1x1, .i32⟩
  | .hbm, ⟨19, _⟩ => ⟨S1x1024x16384, .i32⟩
  | .hbm, ⟨20, _⟩ => ⟨S2x1024x16384, .i32⟩
  | .hbm, ⟨21, _⟩ => ⟨S2x1024x16384, .i32⟩
  | .hbm, ⟨22, _⟩ => ⟨S2x1024x16384, .i32⟩
  | .hbm, ⟨23, _⟩ => ⟨S_, .i32⟩
  | .hbm, ⟨24, _⟩ => ⟨S2x1024x16384, .i32⟩
  | .hbm, ⟨25, _⟩ => ⟨S2x1024x16384, .i32⟩
  | .hbm, ⟨26, _⟩ => ⟨S2x1024x16384, .bf16⟩
  | .hbm, ⟨27, _⟩ => ⟨S2x16x64x16384, .bf16⟩
  | .hbm, ⟨28, _⟩ => ⟨S1x16x1x16384, .bf16⟩
  | .hbm, ⟨29, _⟩ => ⟨S2x16x64x16384, .bf16⟩
  | .hbm, ⟨30, _⟩ => ⟨S2x16x64x16384, .bf16⟩
  | .hbm, ⟨31, _⟩ => ⟨S1x16x1x16384, .bf16⟩
  | .hbm, ⟨32, _⟩ => ⟨S2x16x64x16384, .bf16⟩
  | .hbm, ⟨33, _⟩ => ⟨S2x16x64x16384, .bf16⟩
  | .hbm, ⟨34, _⟩ => ⟨S2048x16384, .bf16⟩
  | .hbm, ⟨35, _⟩ => ⟨S192x1024x2, .bf16⟩
  | .hbm, ⟨36, _⟩ => ⟨S192x2x1024, .bf16⟩
  | .hbm, ⟨37, _⟩ => ⟨S192x2048, .bf16⟩
  | .hbm, ⟨38, _⟩ => ⟨S192x16384, .f32⟩
  | .hbm, ⟨39, _⟩ => ⟨S192x16384, .bf16⟩
  | _, _ => ⟨S192x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Nibble.lean ====
/-
  THE NIBBLES OF A BYTE, as numbers. Both programs take a four-bit code out of a byte by shifts and masks on 32-bit words;
  each of the spellings that occur is shown here to be the code's value `byte / 16 ^ p % 16`, read exactly at the ideal
  instance.
-/
module

public import Idealize.ShloMosaic.Lib.Pointwise

@[expose] public section

set_option maxRecDepth 16384

noncomputable section

namespace Cert.Nibble

open Idealize.ShloMosaic

/-- Nibble `p` of the byte `b` (0 the low one, 1 the high one), as an extended real. -/
def nib (b : BitVec 8) (p : ℕ) : EReal := (((b.toNat / 16 ^ p % 16 : ℕ) : ℝ) : EReal)

/-- A word whose signed reading is a natural `n` converts to `n`. -/
theorem conv_of_toInt {w : BitVec 32} {n : ℕ} (h : w.toInt = (n : ℤ)) : ((w.toInt : ℝ) : EReal) = ((n : ℝ) : EReal) := by
  rw [h]; norm_cast

theorem shift_mask_word (u : ArithUnit) : ∀ (b : Fin 256) (p : Fin 2),
    (IntOp.andi (IntOp.shrsi u ((BitVec.ofNat 8 b.val).setWidth 32) (BitVec.ofNat 32 (4 * p.val))) 15#32).toInt
      = ((b.val / 16 ^ p.val % 16 : ℕ) : ℤ) := by
  cases u <;> decide +kernel

theorem mask_word : ∀ b : Fin 256, (IntOp.andi ((BitVec.ofNat 8 b.val).setWidth 32) 15#32).toInt = ((b.val % 16 : ℕ) : ℤ) := by
  decide +kernel

theorem shift_word (u : ArithUnit) : ∀ b : Fin 256,
    (IntOp.shrsi u ((BitVec.ofNat 8 b.val).setWidth 32) 4#32).toInt = ((b.val / 16 % 16 : ℕ) : ℤ) := by
  cases u <;> decide +kernel

/-- Shift by `4 p`, then mask: nibble `p`. -/
theorem shift_mask (u : ArithUnit) (b : BitVec 8) {p : ℕ} (hp : p < 2) :
    (((IntOp.andi (IntOp.shrsi u (b.setWidth 32) (BitVec.ofNat 32 (4 * p))) 15#32).toInt : ℝ) : EReal) = nib b p := by
  have h := shift_mask_word u ⟨b.toNat, b.isLt⟩ ⟨p, hp⟩
  simp only [BitVec.ofNat_toNat, BitVec.setWidth_eq] at h
  exact conv_of_toInt h

/-- Mask alone: the low nibble. -/
theorem mask (b : BitVec 8) : (((IntOp.andi (b.setWidth 32) 15#32).toInt : ℝ) : EReal) = nib b 0 := by
  have h := mask_word ⟨b.toNat, b.isLt⟩
  simp only [BitVec.ofNat_toNat, BitVec.setWidth_eq] at h
  rw [conv_of_toInt h]; simp [nib]

/-- Shift by four alone: the high nibble, since the byte was widened by zeros. -/
theorem shift (u : ArithUnit) (b : BitVec 8) : (((IntOp.shrsi u (b.setWidth 32) 4#32).toInt : ℝ) : EReal) = nib b 1 := by
  have h := shift_word u ⟨b.toNat, b.isLt⟩
  simp only [BitVec.ofNat_toNat, BitVec.setWidth_eq] at h
  rw [conv_of_toInt h]; simp [nib]

/-- The word at which lane `l` of a tile reads the tile's packed bytes: half the lane, in the tile's half `n`. -/
theorem lane_word : ∀ (l : Fin 128) (n : Fin 2),
    (Scalar.select (IntOp.cmpi CmpIPredicate.slt
        (IntOp.addi (IntOp.shrsi ArithUnit.vector (BitVec.ofNat 32 l.val) 1#32) (BitVec.ofNat 32 (64 * n.val))) 0#32)
      (IntOp.addi (IntOp.addi (IntOp.shrsi ArithUnit.vector (BitVec.ofNat 32 l.val) 1#32) (BitVec.ofNat 32 (64 * n.val))) 128#32)
      (IntOp.addi (IntOp.shrsi ArithUnit.vector (BitVec.ofNat 32 l.val) 1#32) (BitVec.ofNat 32 (64 * n.val)))).toNat % 128
      = l.val / 2 + 64 * n.val := by
  decide +kernel

/-- The word by which lane `l` shifts: four times its parity. -/
theorem parity_word : ∀ l : Fin 128,
    IntOp.muli (IntOp.andi (BitVec.ofNat 32 l.val) 1#32) 4#32 = BitVec.ofNat 32 (4 * (l.val % 2)) := by
  decide +kernel

end Cert.Nibble

end
-- ==== Proof.Zeros.lean ====
module

public import proofs.«01_k».proof.Proof.Gen.KernelIdeal.Skeleton
public import proofs.«01_k».proof.Proof.Nibble
public import Idealize.ShloMosaic.Lib.Pipeline.Value
public import Idealize.ShloMosaic.Lib.Pointwise

@[expose] public section

set_option maxRecDepth 16384

noncomputable section

namespace Cert.KernelIdeal.Val

open Cert.Nibble Cert.KernelIdeal Cert.KernelIdeal.Gen Idealize.ShloMosaic Idealize.SL.Sem

/-- One 128-lane piece of the spread zero points: from the tile of packed words that begins at column `o`, lane `l` takes
    the word at `l / 2` in the tile's half `n`, and of it the nibble of the lane's parity. -/
def zPiece (Z : IVec S16x1024 32) (o n : ℕ) (hs : S16x1024.Slices ![0, o] S16x128) : IVec S16x128 32 :=
  let l := iota .tc S16x128 32 [1] iota_S16x128_d1_w32
  let i := addi (shrsi l (broadcast S16x128 1#32)) (broadcast S16x128 (BitVec.ofNat 32 (64 * n)))
  let i := select (cmpi .slt i (broadcast S16x128 0#32)) (addi i (broadcast S16x128 128#32)) i
  let i := shapeCast S16x128 (shapeCast S16x128x1 i shapeCasts_S16x128_S16x128x1) shapeCasts_S16x128x1_S16x128
  andi (shrsi (dynamicGather 1 (extractStridedSlice S16x128 ![0, o] Z hs) i) k0_pay4) (broadcast S16x128 15#32)

/-- The piece at an index: nibble `l % 2` of the word at column `o + 64 n + l / 2`. -/
theorem zPiece_apply (Z : IVec S16x1024 32) (o n : ℕ) (hs : S16x1024.Slices ![0, o] S16x128) (hn : n < 2) (r : Fin 16) (l : Fin 128)
    (q : Fin 1024) (hq : q.val = o + (l.val / 2 + 64 * n)) :
    zPiece Z o n hs (ix2 r l) = IntOp.andi (IntOp.shrsi .vector (Z (ix2 r q)) (BitVec.ofNat 32 (4 * (l.val % 2)))) 15#32 := by
  have e := lane_word l ⟨n, hn⟩
  have p := parity_word l
  pointwise [zPiece, k0_pay4]
  rw [p]
  congr 4
  apply Fin.ext
  simp only [hq]
  simp only at e
  rw [e]

/-- The pieces' slices lie inside the block. -/
theorem slices_piece (n : Fin 16) : S16x1024.Slices ![0, 128 * (n.val / 2)] S16x128 := by
  revert n; decide

/-- The zero points of a block, as the kernel spreads them over its columns. -/
def zAll {F : FTy → Type} [FloatOps F] (Z : Vec F S16x1024 .i8) : FVec F S16x2048 .f32 :=
  k0_pay29 (k0_pay3 Z) k0_pay4 (k0_pay6 Z) (k0_pay7 Z)
                (k0_pay10 k0_pay4 (k0_pay8 Z) k0_pay9 0#32)
                (k0_pay11 k0_pay4 (k0_pay8 Z) (iota Kind.tc S16x128 32 [1] iota_S16x128_d1_w32))
                (k0_pay13 (k0_pay3 Z) k0_pay4)
                (k0_pay15 k0_pay4 (k0_pay12 (k0_pay3 Z)) (iota Kind.tc S16x128 32 [1] iota_S16x128_d1_w32)
                  k0_pay14)
                (k0_pay17 (k0_pay3 Z) k0_pay4) (k0_pay18 (k0_pay3 Z) k0_pay4)
                (k0_pay20 (k0_pay3 Z) k0_pay4) (k0_pay21 (k0_pay3 Z) k0_pay4)
                (k0_pay24 k0_pay4 (k0_pay23 (k0_pay3 Z)))
                (k0_pay25 k0_pay4 (k0_pay22 (k0_pay3 Z)) (iota Kind.tc S16x128 32 [1] iota_S16x128_d1_w32))
                (k0_pay26 (k0_pay3 Z)) (k0_pay27 (k0_pay3 Z) k0_pay4) k0_pay28

/-- The spread zero points are the sixteen pieces side by side, converted. -/
theorem zAll_eq {F : FTy → Type} [FloatOps F] (Z : Vec F S16x1024 .i8) : zAll Z = sitofp .f32 (concatenate S16x2048 1
    (List.ofFn fun n : Fin 16 => ⟨S16x128, zPiece (extui 32 Z natLt_8_32) (128 * (n.val / 2)) (n.val % 2) (slices_piece n)⟩)
    concatenates_S16x128_S16x128_S16x128_S16x128_S16x128_S16x128_S16x128_S16x128_S16x128_S16x128_S16x128_S16x128_S16x128_S16x128_S16x128_S16x128_S16x2048_d1) := rfl

/-- Row `r`, column `j` of the spread zero points: nibble `j % 2` of the packed byte at column `j / 2`. -/
theorem zAll_apply (Z : Vec Ideal S16x1024 .i8) (r : Fin 16) (j : Fin 2048) :
    zAll Z (ix2 r j) = nib (Z (ix2 r ⟨j.val / 2, by omega⟩)) (j.val % 2) := by
  rw [zAll_eq]
  have hj := j.isLt
  have e := concatenate_ofFn_apply (t := S16x2048) (s₁ := S16x128) 1
    (fun n : Fin 16 => zPiece (extui 32 Z natLt_8_32) (128 * (n.val / 2)) (n.val % 2) (slices_piece n))
    concatenates_S16x128_S16x128_S16x128_S16x128_S16x128_S16x128_S16x128_S16x128_S16x128_S16x128_S16x128_S16x128_S16x128_S16x128_S16x128_S16x128_S16x2048_d1
    rfl 128 rfl (ix2 r j) ⟨j.val / 128, by omega⟩ rfl (ix2 r ⟨j.val % 128, by omega⟩) rfl
    (fun b hb => by
      match b with
      | ⟨0, _⟩ => rfl
      | ⟨1, _⟩ => exact absurd rfl hb)
  refine (congrArg (FloatOps.sitofp (F := Ideal) .f32) e).trans ?_
  rw [zPiece_apply _ _ _ _ (by omega) r _ ⟨j.val / 2, by omega⟩ (by simp only; omega)]
  simp only
  rw [show j.val % 128 % 2 = j.val % 2 by omega]
  exact shift_mask .vector _ (by omega)

end Cert.KernelIdeal.Val

end
-- ==== Proof.Weights.lean ====
/-
  ONE GROUP OF WEIGHTS, as the kernel writes it to its scratch: 64 packed rows become 128 rows of codes, less the group's
  zero point, times the group's scale. Every one of the kernel's sixteen stores has this payload, at its own group.
-/
module

public import proofs.«01_k».proof.Proof.Gen.KernelIdeal.Skeleton
public import proofs.«01_k».proof.Proof.Nibble
public import Idealize.ShloMosaic.Lib.Pipeline.Value
public import Idealize.ShloMosaic.Lib.Pipeline.ValueKit
public import Idealize.ShloMosaic.Lib.Pointwise

@[expose] public section

set_option maxRecDepth 16384

noncomputable section

namespace Cert.KernelIdeal.Val

open Cert.Nibble Cert.KernelIdeal Cert.KernelIdeal.Gen Idealize.ShloMosaic Idealize.SL.Sem

/-- The codes of 64 packed rows, row `r` of the result being nibble `r % 2` of packed row `r / 2`. -/
def codes (W : IVec S64x2048 32) : IVec S128x2048 32 :=
  shapeCast S128x2048 (concatenate S64x2x2048 1
    [⟨S64x1x2048, shapeCast S64x1x2048 (andi W (broadcast S64x2048 15#32)) shapeCasts_S64x2048_S64x1x2048⟩,
     ⟨S64x1x2048, shapeCast S64x1x2048 (shrsi W (broadcast S64x2048 4#32)) shapeCasts_S64x2048_S64x1x2048⟩]
    concatenates_S64x1x2048_S64x1x2048_S64x2x2048_d1) shapeCasts_S64x2x2048_S128x2048

/-- Group `g`'s weights, over the spread zero points `zz` and the scales `ss`. -/
def wGroup {F : FTy → Type} [FloatOps F] (zz ss : FVec F S16x2048 .f32) (W : Vec F S64x2048 .i8) (g : ℕ) (hs : S16x2048.Slices ![g, 0] S1x2048) :
    FVec F S128x2048 .bf16 :=
  let row (v : FVec F S16x2048 .f32) : FVec F S128x2048 .bf16 :=
    truncf .bf16 (broadcastTo S128x2048 (shapeCast S1x2048 (extractStridedSlice S1x2048 ![g, 0] v hs) shapeCasts_S1x2048_S1x2048)
      broadcasts_S1x2048_S128x2048) bitsLt_bf16_f32
  shapeCast S128x2048 (mulf (subf (sitofp .bf16 (codes (extui 32 W natLt_8_32))) (row zz)) (row ss)) shapeCasts_S128x2048_S128x2048

/-- A code, converted, is its nibble. -/
theorem codes_apply (W : Vec Ideal S64x2048 .i8) (r : Fin 128) (l : Fin 2048) :
    ((((codes (extui 32 W natLt_8_32) (ix2 r l)).toInt : ℝ) : EReal)) = nib (W (ix2 ⟨r.val / 2, by omega⟩ l)) (r.val % 2) := by
  pointwise [codes]
  split
  · exact (mask _).trans (congrArg (nib _) (by omega))
  · exact (shift .vector _).trans (congrArg (nib _) (by omega))

/-- Group `g`'s weight at row `r`, column `l`. -/
theorem wGroup_apply (zz ss : FVec Ideal S16x2048 .f32) (W : Vec Ideal S64x2048 .i8) (g : ℕ) (hg : g < 16) (hs : S16x2048.Slices ![g, 0] S1x2048)
    (r : Fin 128) (l : Fin 2048) : wGroup zz ss W g hs (ix2 r l)
      = (nib (W (ix2 ⟨r.val / 2, by omega⟩ l)) (r.val % 2) - zz (ix2 ⟨g, hg⟩ l)) * ss (ix2 ⟨g, hg⟩ l) := by
  rw [← codes_apply]
  pointwise [wGroup]
  rfl

/-- A group's row lies inside the sixteen. -/
theorem slices_group (k : Fin 16) : S16x2048.Slices ![15 - k.val, 0] S1x2048 := by
  revert k; decide

/-- A group's 64 packed rows lie inside the block. -/
theorem inb_group (k : Fin 16) : ∀ a, (![64 * (15 - k.val), 0] : Fin 2 → ℕ) a + (![64, 2048] : Fin 2 → ℕ) a ≤ S1024x2048.size a := by
  revert k; decide

/-- A group's 128 weight rows lie inside the scratch. -/
theorem inb_rows (k : Fin 16) : ∀ a, (![128 * (15 - k.val), 0] : Fin 2 → ℕ) a + (![128, 2048] : Fin 2 → ℕ) a ≤ S2048x2048.size a := by
  revert k; decide

/-- The sixteen stores to the scratch, last first. -/
def stores {F : FTy → Type} [FloatOps F] (zz ss : FVec F S16x2048 .f32) (W : Vec F S1024x2048 .i8) : List (View.Piece (Elt F) S2048x2048 .bf16) :=
  List.ofFn fun k : Fin 16 => ⟨Rect.unit ![128 * (15 - k.val), 0] ![128, 2048] (inb_rows k),
    wGroup zz ss (View.ld W (Rect.unit ![64 * (15 - k.val), 0] ![64, 2048] (inb_group k))) (15 - k.val) (slices_group k)⟩

/-- What the scratch holds after them at row `k`, column `l`: the weight of input feature `k`. -/
theorem stores_apply (zz ss : FVec Ideal S16x2048 .f32) (W : Vec Ideal S1024x2048 .i8) (k l : Fin 2048) :
    View.canon (stores zz ss W) (ix2 k l)
      = (nib (W (ix2 ⟨k.val / 2, by omega⟩ l)) (k.val % 2) - zz (ix2 ⟨k.val / 128, by omega⟩ l)) * ss (ix2 ⟨k.val / 128, by omega⟩ l) := by
  have hk := k.isLt
  have hl := l.isLt
  refine View.canon_ofFn_unit_eq_of_forall (S := S2048x2048) (fun k : Fin 16 => ![128 * (15 - k.val), 0]) ![128, 2048] inb_rows _ _ _ ?_ ?_
  · refine ⟨⟨15 - k.val / 128, by omega⟩, fun a => ?_⟩
    match a with
    | ⟨0, _⟩ => show 128 * (15 - (15 - k.val / 128)) ≤ k.val ∧ k.val < 128 * (15 - (15 - k.val / 128)) + 128; omega
    | ⟨1, _⟩ => show 0 ≤ l.val ∧ l.val < 0 + 2048; omega
  · intro g x hx
    idx_vars x
    have h0 : k.val = 128 * (15 - g.val) + x0.val := hx 0
    have h1 : l.val = 0 + x1.val := hx 1
    rw [wGroup_apply _ _ _ _ (by omega)]
    have e : View.ld W (Rect.unit ![64 * (15 - g.val), 0] ![64, 2048] (inb_group g)) (ix2 ⟨x0.val / 2, by omega⟩ x1)
        = W (ix2 ⟨k.val / 2, by omega⟩ l) := by
      rw [View.ld_apply]
      refine congrArg W (funext fun a => Fin.ext ?_)
      rw [Rect.idx_unit_val]
      match a with
      | ⟨0, _⟩ => show 64 * (15 - g.val) + x0.val / 2 = k.val / 2; omega
      | ⟨1, _⟩ => show 0 + x1.val = l.val; omega
    have i : (ix2 (⟨15 - g.val, by omega⟩ : Fin 16) x1) = ix2 ⟨k.val / 128, by omega⟩ l := by
      congr 1 <;> apply Fin.ext <;> (try simp only) <;> omega
    have p : x0.val % 2 = k.val % 2 := by omega
    rw [e, i, p]

end Cert.KernelIdeal.Val

end
-- ==== Proof.Result.lean ====
/-
  THE VALUE both programs are set against: the quantized linear layer as one sum of products per output entry.
-/
module

public import proofs.«01_k».proof.Proof.Nibble

@[expose] public section

noncomputable section

namespace Cert.Result

open Cert.Nibble Idealize.ShloMosaic

/-- The weight of input feature `k` and output feature `j`: its four-bit code, from nibble `k % 2` of packed row `k / 2`, less the
    zero point of its group `k / 128`, times the group's scale. The zero point is nibble `j % 2` of the packed column `j / 2`. -/
def weight (W : (⟨2, ![1024, 16384]⟩ : Shape).Idx → BitVec 8) (S : (⟨2, ![16, 16384]⟩ : Shape).Idx → EReal)
    (Z : (⟨2, ![16, 8192]⟩ : Shape).Idx → BitVec 8) (k : Fin 2048) (j : Fin 16384) : EReal :=
  (nib (W (ix2 ⟨k.val / 2, by omega⟩ j)) (k.val % 2) - nib (Z (ix2 ⟨k.val / 128, by omega⟩ ⟨j.val / 2, by omega⟩)) (j.val % 2))
    * S (ix2 ⟨k.val / 128, by omega⟩ j)

/-- The layer's output: row `y 0` of the activations against column `y 1` of the weights. -/
def layer (X : (⟨3, ![192, 1, 2048]⟩ : Shape).Idx → EReal) (W : (⟨2, ![1024, 16384]⟩ : Shape).Idx → BitVec 8)
    (S : (⟨2, ![16, 16384]⟩ : Shape).Idx → EReal) (Z : (⟨2, ![16, 8192]⟩ : Shape).Idx → BitVec 8) :
    (⟨2, ![192, 16384]⟩ : Shape).Idx → EReal :=
  fun y => ∑ k : Fin 2048, X (ix3 (y 0) 0 k) * weight W S Z k (y 1)

end Cert.Result

end
-- ==== Proof.Kernel.lean ====
/-
  WHAT THE KERNEL'S RESULT HOLDS: each grid point fills its scratch with the weights of 2048 output features and multiplies the
  activations by them; the eight blocks together are the layer's output.
-/
module

public import proofs.«01_k».proof.Proof.Gen.KernelIdeal.Value
public import proofs.«01_k».proof.Proof.Zeros
public import proofs.«01_k».proof.Proof.Weights
public import proofs.«01_k».proof.Proof.Result
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Cert.Nibble Cert.Result Cert.KernelIdeal Cert.KernelIdeal.Gen Idealize.ShloMosaic Idealize.ShloMosaic.TcCoe Idealize.SL.Sem
open Idealize.ShloMosaic.Pipeline (Dat)

/-- The product a grid point stores, at row `i`, column `l`: the sum over input features. -/
theorem product_apply (x : Vec Ideal S192x2048 .bf16) (w : Vec Ideal S2048x2048 .bf16) (i : Fin 192) (l : Fin 2048) :
    k0_pay2 x w (ix2 i l) = ∑ k : Fin 2048, x (ix2 i k) * w (ix2 k l) := by
  pointwise [k0_pay2]

/-- A block's output at row `i`, column `l`, over the four blocks it reads. -/
theorem block_apply (x : Vec Ideal S192x2048 .bf16) (W : Vec Ideal S1024x2048 .i8) (s : Vec Ideal S16x2048 .bf16) (Z : Vec Ideal S16x1024 .i8)
    (i : Fin 192) (l : Fin 2048) :
    k0_pay2 x (View.canon (stores (zAll Z) (k0_pay30 s) W)) (ix2 i l) = ∑ k : Fin 2048, x (ix2 i k)
      * ((nib (W (ix2 ⟨k.val / 2, by omega⟩ l)) (k.val % 2) - nib (Z (ix2 ⟨k.val / 128, by omega⟩ ⟨l.val / 2, by omega⟩)) (l.val % 2))
        * s (ix2 ⟨k.val / 128, by omega⟩ l)) := by
  rw [product_apply]
  refine Finset.sum_congr rfl fun k _ => ?_
  rw [stores_apply, zAll_apply]
  rfl

variable (m : (ℓ : Loc nD τ sig) → Buf (Elt Ideal) ℓ)

/-- The windows' block indices: every block of point `t` is column block `t` of its array, but the activations' one block. -/
theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)

/-- The activations' block is the whole argument. -/
theorem blk0 (c : Dev nD) (t : Fin cfg0.N) (i : Fin 192) (k : Fin 2048) :
    iblk m c 0 t (ix2 i k) = m ((c : Thread nD τ).loc main_arg0) (ix3 i 0 k) := by
  blk_ext! [iblk, V, idx0 t]

/-- The packed weights' block at point `t` begins at column `2048 t`; -/
theorem blk1 (c : Dev nD) (t : Fin cfg0.N) (k : Fin 1024) (l : Fin 2048) (j : Fin 16384) (hj : j.val = 2048 * t.val + l.val) :
    iblk m c 1 t (ix2 k l) = m ((c : Thread nD τ).loc main_arg1) (ix2 k j) := by
  blk_ext! [iblk, V, idx1 t]

/-- the scales' block likewise; -/
theorem blk2 (c : Dev nD) (t : Fin cfg0.N) (g : Fin 16) (l : Fin 2048) (j : Fin 16384) (hj : j.val = 2048 * t.val + l.val) :
    iblk m c 2 t (ix2 g l) = m ((c : Thread nD τ).loc main_arg2) (ix2 g j) := by
  blk_ext! [iblk, V, idx2 t]

/-- the packed zero points' block at column `1024 t`. -/
theorem blk3 (c : Dev nD) (t : Fin cfg0.N) (g : Fin 16) (l : Fin 1024) (j : Fin 8192) (hj : j.val = 1024 * t.val + l.val) :
    iblk m c 3 t (ix2 g l) = m ((c : Thread nD τ).loc main_arg3) (ix2 g j) := by
  blk_ext! [iblk, V, idx3 t]

/-- The result array after the run is the layer's output at the arguments. -/
theorem array_eq (c : Dev nD) : (dats m 0 c).arrAt 4 cfg0.N = layer (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_open
  simp (disch := decide) only [↓ View.readCov_skip, ↓ View.readCov_cons_toLoadRect, ↓ View.readCov_fill]
  frame_out
  rw [View.readCov_eq_canon']
  refine Eq.trans (show _ = k0_pay2 (iblk m c 0 t) (View.canon (stores (zAll (iblk m c 3 t)) (k0_pay30 (iblk m c 2 t)) (iblk m c 1 t))) y from ?_) ?_
  · exact congrFun (congrArg (k0_pay2 (iblk m c 0 t)) (View.ld_unit_lit _ (View.canon (stores (zAll (iblk m c 3 t)) (k0_pay30 (iblk m c 2 t)) (iblk m c 1 t))) (by decide))) y
  idx_vars y
  rw [block_apply]
  have ht : t.val < 8 := t.isLt
  have h1 := y1.isLt
  have e : ((View.whole main_v1).slice (win0_4.rect t)).emb (ix2 y0 y1) = ix2 y0 (⟨2048 * t.val + y1.val, by omega⟩ : Fin 16384) := by
    blk_ext [idx4 t]
  rw [e]
  refine Finset.sum_congr (M := EReal) rfl fun k _ => ?_
  rw [blk0, blk1 m c t _ y1 ⟨2048 * t.val + y1.val, by omega⟩ rfl, blk2 m c t _ y1 ⟨2048 * t.val + y1.val, by omega⟩ rfl,
    blk3 m c t _ _ ⟨(2048 * t.val + y1.val) / 2, by omega⟩ (by simp only; omega)]
  have p : y1.val % 2 = (2048 * t.val + y1.val) % 2 := by omega
  rw [p]
  rfl

end Cert.KernelIdeal.Val

end
-- ==== Proof.Reference.lean ====
/-
  WHAT THE REFERENCE'S RESULT HOLDS: the layer's output. Its weight matrix lists the features of the low nibbles first and those of
  the high nibbles after, and its activations are permuted to match; summed, the order is immaterial.
-/
module

public import proofs.«01_k».proof.Proof.Gen.ReferenceIdeal.Run
public import proofs.«01_k».proof.Proof.Result
public import Idealize.ShloMosaic.Lib.Pipeline.Value
public import Idealize.ShloMosaic.Lib.Pipeline.ValueKit
public import Idealize.ShloMosaic.Lib.Pointwise

@[expose] public section

set_option maxRecDepth 16384

noncomputable section

namespace Cert.ReferenceIdeal.Val

open Cert.Nibble Cert.Result Cert.ReferenceIdeal Cert.ReferenceIdeal.Gen Idealize.ShloMosaic.TcCoe Idealize.ShloMosaic Idealize.SL.Sem

/-- The permuted activations. -/
def acts {F : FTy → Type} [FloatOps F] (X : Vec F S192x1x2048 .bf16) : Vec F S192x2048 .bf16 :=
  shapeCast S192x2048 (transpose S192x2x1024 [0, 2, 1] (shapeCast S192x1024x2 X shapeCasts_S192x1x2048_S192x1024x2)
    transposes_S192x1024x2_S192x2x1024_0_2_1) shapeCasts_S192x2x1024_S192x2048

/-- The packed weights' codes, low nibbles then high. -/
def codes (W : IVec S1024x16384 8) : IVec S2x1024x16384 32 :=
  andi (Host.shrsi (broadcastInDim S2x1024x16384 ![0, 1, 2] bcast_S1x1024x16384_S2x1024x16384_0_1_2
      (broadcastInDim S1x1024x16384 ![1, 2] bcast_S1024x16384_S1x1024x16384_1_2 (extui 32 W natLt_8_32)))
    (broadcastInDim S2x1024x16384 ![0, 1, 2] bcast_S2x1x1_S2x1024x16384_0_1_2
      (broadcastInDim S2x1x1 ![0] bcast_S2_S2x1x1_0 (fun i => lit0 (S2.rowMajor i)))))
    (broadcastInDim S2x1024x16384 ![] bcast_S_S2x1024x16384 (constantI S_ 32 15#32))

/-- The zero points' codes, spread over the output features. -/
def zeros (Z : IVec S16x8192 8) : IVec S16x16384 32 :=
  shapeCast S16x16384 (concatenate S16x8192x2 2
    [⟨S16x8192x1, broadcastInDim S16x8192x1 ![0, 1] bcast_S16x8192_S16x8192x1_0_1
      (andi (extui 32 Z natLt_8_32) (broadcastInDim S16x8192 ![] bcast_S_S16x8192 (constantI S_ 32 15#32)))⟩,
     ⟨S16x8192x1, broadcastInDim S16x8192x1 ![0, 1] bcast_S16x8192_S16x8192x1_0_1
      (Host.shrsi (extui 32 Z natLt_8_32) (broadcastInDim S16x8192 ![] bcast_S_S16x8192 (constantI S_ 32 4#32)))⟩]
    concatenates_S16x8192x1_S16x8192x1_S16x8192x2_d2) shapeCasts_S16x8192x2_S16x16384

/-- A row per group spread over the group's packed rows and both nibbles. -/
def spread {F : FTy → Type} [FloatOps F] (v : Vec F S16x16384 .bf16) : Vec F S2x16x64x16384 .bf16 :=
  broadcastInDim S2x16x64x16384 ![0, 1, 2, 3] bcast_S1x16x1x16384_S2x16x64x16384_0_1_2_3
    (broadcastInDim S1x16x1x16384 ![1, 3] bcast_S16x16384_S1x16x1x16384_1_3 v)

/-- The weight matrix. -/
def weights {F : FTy → Type} [FloatOps F] (W : Vec F S1024x16384 .i8) (S : Vec F S16x16384 .bf16) (Z : Vec F S16x8192 .i8) :
    FVec F S2048x16384 .bf16 :=
  shapeCast S2048x16384 (mulf (subf (shapeCast S2x16x64x16384 (sitofp (F := F) .bf16 (codes W)) shapeCasts_S2x1024x16384_S2x16x64x16384)
    (spread (sitofp (F := F) .bf16 (zeros Z)))) (spread S)) shapeCasts_S2x16x64x16384_S2048x16384

/-- The result. -/
def out {F : FTy → Type} [FloatOps F] (X : Vec F S192x1x2048 .bf16) (W : Vec F S1024x16384 .i8) (S : Vec F S16x16384 .bf16) (Z : Vec F S16x8192 .i8) :
    FVec F S192x16384 .bf16 :=
  truncf .bf16 (Host.dotGeneral dot_S192x2048_S2048x16384_S192x16384_1_0_0_1_n_n none (acts X) (weights W S Z)) bitsLt_bf16_f32

/-- The reference's run: its result is `out` of the arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = out (F := Ideal) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

/-- The input feature at position `q` of the reference's order: nibble `q / 1024` of packed row `q % 1024`. -/
def feature : Fin 2048 ≃ Fin 2048 where
  toFun q := ⟨2 * (q.val % 1024) + q.val / 1024, by omega⟩
  invFun k := ⟨1024 * (k.val % 2) + k.val / 2, by omega⟩
  left_inv q := Fin.ext (by simp only; omega)
  right_inv k := Fin.ext (by simp only; omega)

theorem feature_val (q : Fin 2048) : (feature q).val = 2 * (q.val % 1024) + q.val / 1024 := rfl

/-- The permuted activations at row `i`, position `q`: the activation of that position's feature. -/
theorem acts_apply (X : Vec Ideal S192x1x2048 .bf16) (i : Fin 192) (q : Fin 2048) : acts X (ix2 i q) = X (ix3 i 0 (feature q)) := by
  pointwise [acts]
  refine congrArg (fun k => X (ix3 i 0 k)) (Fin.ext ?_)
  rw [feature_val]
  simp only
  omega

/-- The two shift amounts. -/
theorem shifts : ∀ p : Fin 2, lit0 (S2.rowMajor (ix1 p)) = BitVec.ofNat 32 (4 * p.val) := by
  decide

/-- A weight code, converted, is its nibble. -/
theorem codes_apply (W : Vec Ideal S1024x16384 .i8) (p : Fin 2) (r : Fin 1024) (j : Fin 16384) :
    (((codes W (ix3 p r j)).toInt : ℝ) : EReal) = nib (W (ix2 r j)) p.val := by
  pointwise [codes]
  rw [shifts]
  exact shift_mask .host _ p.isLt

/-- A zero point's code, converted, is nibble `j % 2` of packed column `j / 2`. -/
theorem zeros_apply (Z : Vec Ideal S16x8192 .i8) (g : Fin 16) (j : Fin 16384) :
    (((zeros Z (ix2 g j)).toInt : ℝ) : EReal) = nib (Z (ix2 g ⟨j.val / 2, by omega⟩)) (j.val % 2) := by
  pointwise [zeros]
  split
  · exact (mask _).trans (congrArg (nib _) (by omega))
  · exact (shift .host _).trans (congrArg (nib _) (by omega))

/-- The weight matrix at position `q`, column `j`: the weight of that position's feature. -/
theorem weights_apply (W : Vec Ideal S1024x16384 .i8) (S : Vec Ideal S16x16384 .bf16) (Z : Vec Ideal S16x8192 .i8) (q : Fin 2048) (j : Fin 16384) :
    weights W S Z (ix2 q j) = weight W S Z (feature q) j := by
  have hq := q.isLt
  have hf := feature_val q
  pointwise [weights, spread]
  refine (congrArg₂ (fun a b : EReal => (a - b) * S (ix2 _ j)) (codes_apply W _ _ j) (zeros_apply Z _ j)).trans ?_
  have hd : q.val / 64 / 16 = q.val / 1024 := Nat.div_div_eq_div_mul ..
  have r : (⟨q.val / 64 % 16 * 64 + q.val % 64, by omega⟩ : Fin 1024) = ⟨(feature q).val / 2, by omega⟩ := Fin.ext (by simp only; omega)
  have g : (⟨q.val / 64 % 16, by omega⟩ : Fin 16) = ⟨(feature q).val / 128, by omega⟩ := Fin.ext (by simp only; omega)
  have p : q.val / 1024 = (feature q).val % 2 := by omega
  simp only [r, g, p]
  rfl

/-- The reference's result is the layer's output. -/
theorem out_eq (X : Vec Ideal S192x1x2048 .bf16) (W : Vec Ideal S1024x16384 .i8) (S : Vec Ideal S16x16384 .bf16) (Z : Vec Ideal S16x8192 .i8) :
    out X W S Z = layer X W S Z := by
  funext y
  idx_vars y
  pointwise [out]
  refine Fintype.sum_equiv feature _ (fun k => X (ix3 y0 0 k) * weight W S Z k y1) fun q => ?_
  rw [acts_apply, weights_apply]

end Cert.ReferenceIdeal.Val

end
-- ==== Proof.lean ====
/-
  THE CERTIFICATE: each program runs, terminates and leaves its arguments and counters as they were; and, read exactly, the kernel and
  the reference end with the same result, the layer's output (Proof/Result.lean).
-/
module

public import proofs.«01_k».proof.Proof.Kernel
public import proofs.«01_k».proof.Proof.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, its arguments unchanged; it has no semaphore, so every counter is zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Val.run m ρ)

/-- From equal arguments, the kernel and the reference both end with the layer's output. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Result.layer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ⟨(h c).1.trans (Cert.KernelIdeal.Val.array_eq m c), (h c).2⟩)
      (Cert.KernelIdeal.Value.run_blocks m ρ)
  · refine (θ_run Cert.ReferenceIdeal.defs _ _).mono (fun r h c => ⟨(h c).1.trans ?_, (h c).2⟩) (Cert.ReferenceIdeal.Val.run m' ρ')
    rw [(hagree c).1, (hagree c).2.1, (hagree c).2.2.1, (hagree c).2.2.2]
    exact Cert.ReferenceIdeal.Val.out_eq _ _ _ _

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
